-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x11648 : Shape := ⟨3, ![3, 8192, 11648]⟩
abbrev S3x8192x1 : Shape := ⟨3, ![3, 8192, 1]⟩
abbrev S11648x2688 : Shape := ⟨2, ![11648, 2688]⟩
abbrev S2688 : Shape := ⟨1, ![2688]⟩
abbrev S24576x11648 : Shape := ⟨2, ![24576, 11648]⟩
abbrev S48x1x512 : Shape := ⟨3, ![48, 1, 512]⟩
abbrev S24576x2688 : Shape := ⟨2, ![24576, 2688]⟩
abbrev S512x11648 : Shape := ⟨2, ![512, 11648]⟩
abbrev S1x1x512 : Shape := ⟨3, ![1, 1, 512]⟩
abbrev S512x2688 : Shape := ⟨2, ![512, 2688]⟩
abbrev S1x512 : Shape := ⟨2, ![1, 512]⟩
abbrev S128x512 : Shape := ⟨2, ![128, 512]⟩
abbrev S512x128 : Shape := ⟨2, ![512, 128]⟩
abbrev S512x1 : Shape := ⟨2, ![512, 1]⟩
abbrev S1x2688 : Shape := ⟨2, ![1, 2688]⟩
abbrev S3x8192x2688 : Shape := ⟨3, ![3, 8192, 2688]⟩

abbrev nBuf : Space → Nat
  | .hbm => 8
  | .vmem => 8
  | .smem => 0
  | _ => 0

abbrev bufTy : (tb : Table) → Fin (tcTables nBuf tb) → BufTy
  | .hbm, ⟨0, _⟩ => ⟨S3x8192x11648, .fp8e4m3⟩
  | .hbm, ⟨1, _⟩ => ⟨S3x8192x1, .f32⟩
  | .hbm, ⟨2, _⟩ => ⟨S11648x2688, .fp8e4m3⟩
  | .hbm, ⟨3, _⟩ => ⟨S2688, .f32⟩
  | .hbm, ⟨4, _⟩ => ⟨S24576x11648, .fp8e4m3⟩
  | .hbm, ⟨5, _⟩ => ⟨S48x1x512, .f32⟩
  | .hbm, ⟨6, _⟩ => ⟨S24576x2688, .bf16⟩
  | .hbm, ⟨7, _⟩ => ⟨S3x8192x2688, .bf16⟩
  | .local _ .vmem, ⟨0, _⟩ => ⟨S512x11648, .fp8e4m3⟩
  | .local _ .vmem, ⟨1, _⟩ => ⟨S512x11648, .fp8e4m3⟩
  | .local _ .vmem, ⟨2, _⟩ => ⟨S1x1x512, .f32⟩
  | .local _ .vmem, ⟨3, _⟩ => ⟨S1x1x512, .f32⟩
  | .local _ .vmem, ⟨4, _⟩ => ⟨S11648x2688, .fp8e4m3⟩
  | .local _ .vmem, ⟨5, _⟩ => ⟨S2688, .f32⟩
  | .local _ .vmem, ⟨6, _⟩ => ⟨S512x2688, .bf16⟩
  | .local _ .vmem, ⟨7, _⟩ => ⟨S512x2688, .bf16⟩
  | _, _ => ⟨S3x8192x11648, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x11648 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11648x2688 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S3x8192x11648 : Shape := ⟨3, ![3, 8192, 11648]⟩
abbrev S3x8192x1 : Shape := ⟨3, ![3, 8192, 1]⟩
abbrev S11648x2688 : Shape := ⟨2, ![11648, 2688]⟩
abbrev S2688 : Shape := ⟨1, ![2688]⟩
abbrev S3x8192x2688 : Shape := ⟨3, ![3, 8192, 2688]⟩
abbrev S1x1x2688 : Shape := ⟨3, ![1, 1, 2688]⟩

abbrev nBuf : Space → Nat
  | .hbm => 5
  | .vmem => 5
  | .smem => 0
  | _ => 0

abbrev bufTy : (tb : Table) → Fin (tcTables nBuf tb) → BufTy
  | .hbm, ⟨0, _⟩ => ⟨S3x8192x11648, .fp8e4m3⟩
  | .hbm, ⟨1, _⟩ => ⟨S3x8192x1, .f32⟩
  | .hbm, ⟨2, _⟩ => ⟨S11648x2688, .fp8e4m3⟩
  | .hbm, ⟨3, _⟩ => ⟨S2688, .f32⟩
  | .hbm, ⟨4, _⟩ => ⟨S3x8192x2688, .bf16⟩
  | .local _ .vmem, ⟨0, _⟩ => ⟨S3x8192x11648, .fp8e4m3⟩
  | .local _ .vmem, ⟨1, _⟩ => ⟨S3x8192x1, .f32⟩
  | .local _ .vmem, ⟨2, _⟩ => ⟨S11648x2688, .fp8e4m3⟩
  | .local _ .vmem, ⟨3, _⟩ => ⟨S2688, .f32⟩
  | .local _ .vmem, ⟨4, _⟩ => ⟨S3x8192x2688, .bf16⟩
  | _, _ => ⟨S3x8192x11648, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x8192x11648 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11648x2688 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8192x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Values.Block.lean ====
/-
  What the two kernel bodies compute, read at one index of the result over the extended reals: a dot product over
  the 11648 features, times the token's scale, times the output channel's scale. The kernel's body makes the
  token's scale a column by a broadcast over 128 lanes, a transpose and a slice; over all of these it is the same
  entry of the loaded line of scales.
-/
module

public import proofs.«01_k».proof.Proof.Gen.KernelIdeal.Skeleton
public import proofs.«01_k».proof.Proof.Gen.ReferenceIdeal.Skeleton
public import Idealize.ShloMosaic.PureOps.Ideal
public import Idealize.ShloMosaic.Lib.Pointwise

@[expose] public section

noncomputable section

open Idealize.ShloMosaic

namespace Cert.KernelIdeal.Block

open Cert.KernelIdeal Cert.KernelIdeal.Gen

/-- What one grid point's body stores at row `i 0`, column `i 1` of its 512-token block. -/
theorem pay_apply (x : Vec Ideal S512x11648 .fp8e4m3) (w : Vec Ideal S11648x2688 .fp8e4m3)
    (xs : Vec Ideal S1x1x512 .f32) (ws : Vec Ideal S2688 .f32) (i : S512x2688.Idx) :
    k0_pay1 x w xs ws i
      = (∑ k : Fin 11648, (x (ix2 (i 0) k) : EReal) * w (ix2 k (i 1))) * xs (ix3 0 0 (i 0)) * ws (ix1 (i 1)) := by
  pointwise [k0_pay1]

end Cert.KernelIdeal.Block

namespace Cert.ReferenceIdeal.Block

open Cert.ReferenceIdeal Cert.ReferenceIdeal.Gen

/-- What the reference stores at batch `i 0`, position `i 1`, channel `i 2`. -/
theorem pay_apply (x : Vec Ideal S3x8192x11648 .fp8e4m3) (w : Vec Ideal S11648x2688 .fp8e4m3)
    (xs : Vec Ideal S3x8192x1 .f32) (ws : Vec Ideal S2688 .f32) (i : S3x8192x2688.Idx) :
    k0_pay1 x w xs ws i
      = (∑ k : Fin 11648, (x (ix3 (i 0) (i 1) k) : EReal) * w (ix2 k (i 2))) * xs (ix3 (i 0) (i 1) 0) * ws (ix1 (i 2)) := by
  pointwise [k0_pay1]

end Cert.ReferenceIdeal.Block
end
-- ==== Proof.Values.Array.lean ====
/-
  What the kernel's result holds after the run, over the extended reals: each of the 48 grid points writes its 512
  rows of one function `G` of the whole arrays, the 48 blocks fill the output array, and the host's reshape of that
  array is the program's result.
-/
module

public import proofs.«01_k».proof.Proof.Gen.KernelIdeal.Frame
public import proofs.«01_k».proof.Proof.Values.Block
public import Idealize.ShloMosaic.Lib.Pipeline.Value
public import Idealize.ShloMosaic.Lib.Claim

@[expose] public section

noncomputable section

open Idealize.ShloMosaic Idealize.ShloMosaic.TcCoe Idealize.SL.Sem
open Idealize.ShloMosaic.Pipeline (Dat)

namespace Cert.KernelIdeal.Array

open Cert.KernelIdeal Cert.KernelIdeal.Gen

variable (m : (ℓ : Loc nD τ sig) → Buf (Elt Ideal) ℓ) (ρ : Dev nD → PrngReg)

/-! ## Which rows a grid point reads and writes -/

/-- At grid point `t` the token blocks (windows 0, 1 and 4) are block `t` of their arrays' leading axis, and the
    weight and its scales (windows 2 and 3) are whole. -/
theorem index_eq : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ win0_3.index t (0 : Fin 1) = 0
    ∧ (win0_4.index t (0 : Fin 2) = t.val ∧ win0_4.index t (1 : Fin 2) = 0) :=
  (by decide +kernel : ∀ t : Fin grid0.N, _)

/-- A grid point is below 48. -/
theorem point_lt (t : Fin cfg0.N) : t.val < 48 := t.isLt

/-- Row `r` of block `t` is row `512 t + r` of the array of all tokens. -/
def row (t : Fin cfg0.N) (r : Fin 512) : Fin 24576 :=
  ⟨t.val * 512 + r.val, by have := point_lt t; omega⟩

/-- Row `r`, feature `k` of point `t`'s token block is row `512 t + r`, feature `k` of the tokens. -/
theorem emb0 (t : Fin cfg0.N) (r : Fin 512) (k : Fin 11648) :
    ((cfg0.win 0).blk t).view.emb (ix2 r k) = ix2 (row t r) k := by
  obtain ⟨⟨e0, e1⟩, -⟩ := index_eq t
  funext a; apply Fin.ext
  match a with
  | ⟨0, _⟩ => show win0_0.index t (0 : Fin 2) * 512 + 1 * r.val = t.val * 512 + r.val; omega
  | ⟨1, _⟩ => show win0_0.index t (1 : Fin 2) * 11648 + 1 * k.val = k.val; omega

/-- Entry `r` of point `t`'s line of token scales is entry `r` of line `t`. -/
theorem emb1 (t : Fin cfg0.N) (r : Fin 512) :
    ((cfg0.win 1).blk t).view.emb (ix3 0 0 r) = ix3 ⟨t.val, point_lt t⟩ 0 r := by
  obtain ⟨-, ⟨e0, e1, e2⟩, -⟩ := index_eq t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * r.val = r.val; omega

/-- The weight's block is the whole weight at every point. -/
theorem emb2 (t : Fin cfg0.N) (k : Fin 11648) (n : Fin 2688) :
    ((cfg0.win 2).blk t).view.emb (ix2 k n) = ix2 k n := by
  obtain ⟨-, -, ⟨e0, e1⟩, -⟩ := index_eq t
  funext a; apply Fin.ext
  match a with
  | ⟨0, _⟩ => show win0_2.index t (0 : Fin 2) * 11648 + 1 * k.val = k.val; omega
  | ⟨1, _⟩ => show win0_2.index t (1 : Fin 2) * 2688 + 1 * n.val = n.val; omega

/-- The channel scales' block is the whole array at every point. -/
theorem emb3 (t : Fin cfg0.N) (n : Fin 2688) :
    ((cfg0.win 3).blk t).view.emb (ix1 n) = ix1 n := by
  obtain ⟨-, -, -, e0, -⟩ := index_eq t
  funext a; apply Fin.ext
  match a with
  | ⟨0, _⟩ => show win0_3.index t (0 : Fin 1) * 2688 + 1 * n.val = n.val; omega

/-- Row `r`, column `n` of the block point `t` writes is row `512 t + r`, column `n` of the output. -/
theorem emb4 (t : Fin cfg0.N) (r : Fin 512) (n : Fin 2688) :
    ((cfg0.win 4).blk t).view.emb (ix2 r n) = ix2 (row t r) n := by
  obtain ⟨-, -, -, -, e0, e1⟩ := index_eq t
  funext a; apply Fin.ext
  match a with
  | ⟨0, _⟩ => show win0_4.index t (0 : Fin 2) * 512 + 1 * r.val = t.val * 512 + r.val; omega
  | ⟨1, _⟩ => show win0_4.index t (1 : Fin 2) * 2688 + 1 * n.val = n.val; omega

/-! ## The array after the run -/

/-- The output array as one function of the arrays the pallas_call reads: the row's dot product with the weight's
    column, times the row's scale (entry `r mod 512` of line `r / 512`), times the column's scale. -/
def G (x : Vec Ideal S24576x11648 .fp8e4m3) (xs : Vec Ideal S48x1x512 .f32)
    (w : Vec Ideal S11648x2688 .fp8e4m3) (ws : Vec Ideal S2688 .f32) : Vec Ideal S24576x2688 .bf16 := fun i =>
  (∑ k : Fin 11648, (x (ix2 (i 0) k) : EReal) * w (ix2 k (i 1)))
    * xs (ix3 ⟨(i 0).val / 512, by have : (i 0).val < 24576 := (i 0).isLt; show _ < 48; omega⟩ 0
        ⟨(i 0).val % 512, Nat.mod_lt _ (by decide)⟩)
    * ws (ix1 (i 1))

/-- `G` at row `r` of block `t`: the scale is entry `r` of line `t`. -/
theorem G_row (x : Vec Ideal S24576x11648 .fp8e4m3) (xs : Vec Ideal S48x1x512 .f32)
    (w : Vec Ideal S11648x2688 .fp8e4m3) (ws : Vec Ideal S2688 .f32) (t : Fin cfg0.N) (r : Fin 512) (n : Fin 2688) :
    G x xs w ws (ix2 (row t r) n)
      = (∑ k : Fin 11648, (x (ix2 (row t r) k) : EReal) * w (ix2 k n)) * xs (ix3 ⟨t.val, point_lt t⟩ 0 r) * ws (ix1 n) := by
  have hr : r.val < 512 := r.isLt
  have hd : (row t r).val / 512 = t.val := by show (t.val * 512 + r.val) / 512 = _; omega
  have hm : (row t r).val % 512 = r.val := by show (t.val * 512 + r.val) % 512 = _; omega
  have hi : (ix3 ⟨(row t r).val / 512, hd ▸ point_lt t⟩ 0 ⟨(row t r).val % 512, Nat.mod_lt _ (by decide)⟩ : S48x1x512.Idx)
      = ix3 ⟨t.val, point_lt t⟩ 0 r := by
    congr 1 <;> exact Fin.ext (by assumption)
  exact congrArg (fun i => (∑ k : Fin 11648, (x (ix2 (row t r) k) : EReal) * w (ix2 k n)) * xs i * ws (ix1 n)) hi

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body loads each block whole and stores its payload over the whole output block. -/
theorem out_eq (x0 : Vec Ideal S512x11648 .fp8e4m3) (x1 : Vec Ideal S1x1x512 .f32)
    (x2 : Vec Ideal S11648x2688 .fp8e4m3) (x3 : Vec Ideal S2688 .f32) :
    out0_4 x0 x1 x2 x3 = k0_pay1 x0 x2 x1 x3 := by
  unfold out0_4
  rw [View.canon_unit_zero hz2, View.ld_unit_zero (S := S512x11648) hz2 _ x0,
    View.ld_unit_zero (S := S11648x2688) hz2 _ x2, View.ld_unit_zero (S := S1x1x512) hz3 _ x1,
    View.ld_unit_zero (S := S2688) hz1 _ x3]

/-- What point `t` writes back is its block of `G` of the arrays as the pallas_call finds them. -/
theorem flushed_eq (c : Dev nD) (t : Fin cfg0.N) :
    (dats m 0 c).flushed 4 t = ((cfg0.win 4).blk t).view.read (Elt Ideal)
      (G (V m c main_v0) (V m c main_v1) (V m c main_arg2) (V m c main_arg3)) := by
  show (cfg0.win 4).cut (grid0.coords t) ((dats m 0 c).after 4 t) = _
  rw [after0_4, out_eq]
  funext (j : S512x2688.Idx)
  obtain ⟨r, n, rfl⟩ : ∃ (r : Fin 512) (n : Fin 2688), j = ix2 r n := ⟨j 0, j 1, eq_ix2 j⟩
  have h0 : ∀ k : Fin 11648, iblk m c 0 t (ix2 r k) = V m c main_v0 (ix2 (row t r) k) := fun k =>
    congrArg (V m c main_v0) (emb0 t r k)
  have h1 : iblk m c 1 t (ix3 0 0 r) = V m c main_v1 (ix3 ⟨t.val, point_lt t⟩ 0 r) :=
    congrArg (V m c main_v1) (emb1 t r)
  have h2 : ∀ k : Fin 11648, iblk m c 2 t (ix2 k n) = V m c main_arg2 (ix2 k n) := fun k =>
    congrArg (V m c main_arg2) (emb2 t k n)
  have h3 : iblk m c 3 t (ix1 n) = V m c main_arg3 (ix1 n) := congrArg (V m c main_arg3) (emb3 t n)
  refine (Block.pay_apply _ _ _ _ _).trans (Eq.trans ?_
    (congrArg (G (V m c main_v0) (V m c main_v1) (V m c main_arg2) (V m c main_arg3)) (emb4 t r n)).symm)
  refine Eq.trans ?_ (G_row _ _ _ _ t r n).symm
  exact congrArg₂ (fun a b : EReal => a * b) (congrArg₂ (fun a b : EReal => a * b)
    (Finset.sum_congr rfl fun k _ => congrArg₂ (fun a b : EReal => a * b) (h0 k) (h2 k)) h1) h3

/-- Row `r`, column `n` of block `t` is in the block. -/
theorem mem_blk (t : Fin cfg0.N) (r : Fin 512) (n : Fin 2688) :
    (ix2 (row t r) n : S24576x2688.Idx) ∈ ((cfg0.win 4).blk t).view.set := by
  have h := ((cfg0.win 4).blk t).view.emb_mem_set (ix2 r n)
  have e := emb4 t r n
  exact (congrArg (fun i => i ∈ ((cfg0.win 4).blk t).view.set) e).mp h

/-- Every row is a row of some block. -/
theorem exists_row (r : Fin 24576) : ∃ (t : Fin cfg0.N) (q : Fin 512), row t q = r := by
  have hr : r.val < 24576 := r.isLt
  have ht : r.val / 512 < grid0.N := by rw [show grid0.N = 48 from N_0]; omega
  exact ⟨⟨r.val / 512, ht⟩, ⟨r.val % 512, Nat.mod_lt _ (by omega)⟩, Fin.ext (Nat.div_add_mod' _ _)⟩

/-- Every index of the output array is in the block of some point. -/
theorem covered (i : S24576x2688.Idx) :
    ∃ t : Fin cfg0.N, (cfg0.win 4).flush t = true ∧ i ∈ ((cfg0.win 4).blk t).view.set := by
  obtain ⟨r, n, rfl⟩ : ∃ (r : Fin 24576) (n : Fin 2688), i = ix2 r n := ⟨i 0, i 1, eq_ix2 i⟩
  obtain ⟨t, q, rfl⟩ := exists_row r
  exact ⟨t, flush0_4 t, mem_blk t q n⟩

/-- The pallas_call reads the tokens as the host's reshape of the first argument. -/
theorem V_v0 (c : Dev nD) : V m c main_v0
    = shapeCast S24576x11648 (m ((c : Thread nD τ).loc main_arg0)) shapeCasts_S3x8192x11648_S24576x11648 := by
  entry_read
  rfl

/-- It reads their scales as the host's reshape of the second argument. -/
theorem V_v1 (c : Dev nD) : V m c main_v1
    = shapeCast S48x1x512 (m ((c : Thread nD τ).loc main_arg1)) shapeCasts_S3x8192x1_S48x1x512 := by
  entry_read
  rfl

/-- The pallas_call's output array after the run, as the reshapes of the arguments give it. -/
theorem final (c : Dev nD) : (dats m 0 c).arrAt 4 cfg0.N
    = G (shapeCast S24576x11648 (m ((c : Thread nD τ).loc main_arg0)) shapeCasts_S3x8192x11648_S24576x11648)
        (shapeCast S48x1x512 (m ((c : Thread nD τ).loc main_arg1)) shapeCasts_S3x8192x1_S48x1x512)
        (m ((c : Thread nD τ).loc main_arg2)) (m ((c : Thread nD τ).loc main_arg3)) := by
  rw [← V_v0 m c, ← V_v1 m c, ← V_main_arg2 m c, ← V_main_arg3 m c]
  exact (dats m 0 c).arrAt_eq_of_cover 4 _ (fun t _ => flushed_eq m c t) covered

/-- The host's reshape after the pallas_call leaves its output array, reshaped, in the program's result. -/
theorem result (c : Dev nD) : Pipeline.afterTail₀ cfgs (dats m) 0 (V0 m) [hostOps1] c main_v3
    = shapeCast S3x8192x2688 ((dats m 0 c).arrAt 4 cfg0.N) shapeCasts_S24576x2688_S3x8192x2688 := by
  have hA := Pipeline.withArrays_arr spec0 launch0.win.arr_inj c (V0 m c) (fun w => (dats m 0 c).arrAt w cfg0.N) 4
  rw [← hA]
  unfold Pipeline.afterTail₀
  rfl

/-- The run: the result is the reshape of `G` of the arguments, themselves reshaped for the pallas_call, and the
    arguments end unchanged. -/
theorem run : θ_run defs (onTc (τ := τ) (main (F := Ideal))) ⟨m, fun _ => 0, ρ⟩ fun r => ∀ c : Dev nD,
      r.2.mem ((c : Thread nD τ).loc main_v3) = shapeCast S3x8192x2688
        (G (shapeCast S24576x11648 (m ((c : Thread nD τ).loc main_arg0)) shapeCasts_S3x8192x11648_S24576x11648)
          (shapeCast S48x1x512 (m ((c : Thread nD τ).loc main_arg1)) shapeCasts_S3x8192x1_S48x1x512)
          (m ((c : Thread nD τ).loc main_arg2)) (m ((c : Thread nD τ).loc main_arg3)))
        shapeCasts_S24576x2688_S3x8192x2688
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨
      ((h.1 c).2 main_v3 (Pipeline.mem_restRefs_of main_v3 (by decide) (by decide))).trans
        ((result m c).trans (by rw [final])), h.2 c⟩)
    (θ_run_and (run_main m ρ) (unchanged m ρ))

end Cert.KernelIdeal.Array
end
-- ==== Proof.Values.Equation.lean ====
/-
  The equation between the kernel and the reference over the extended reals: the kernel's tokens are the
  reference's `[3, 8192]` tokens in row-major order, so token `8192 b + s` is token `(b, s)`; its scale is
  entry `(8192 b + s) mod 512` of line `(8192 b + s) / 512` of the scales, the same row-major position again.
-/
module

public import proofs.«01_k».proof.Proof.Values.Array
public import proofs.«01_k».proof.Proof.Gen.ReferenceIdeal.Value

@[expose] public section

noncomputable section

open Idealize.ShloMosaic Idealize.ShloMosaic.TcCoe Idealize.SL.Sem

namespace Cert.Equation

open Cert.KernelIdeal

/-- The kernel's output array, computed from the reshaped arguments and reshaped to `[3, 8192, 2688]`, is the
    reference's output of the arguments themselves. -/
theorem eq_reference (x : Vec Ideal S3x8192x11648 .fp8e4m3) (xs : Vec Ideal S3x8192x1 .f32)
    (w : Vec Ideal S11648x2688 .fp8e4m3) (ws : Vec Ideal S2688 .f32)
    (h0 : S3x8192x11648.ShapeCasts S24576x11648) (h1 : S3x8192x1.ShapeCasts S48x1x512)
    (h2 : S24576x2688.ShapeCasts S3x8192x2688) :
    shapeCast S3x8192x2688 (Array.G (shapeCast S24576x11648 x h0) (shapeCast S48x1x512 xs h1) w ws) h2
      = Cert.ReferenceIdeal.Value.G4 (F := Ideal) x xs w ws := by
  funext i
  refine Eq.trans ?_ (Cert.ReferenceIdeal.Block.pay_apply x w xs ws i).symm
  pointwise [Array.G]

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Values.Equation
public import Idealize.ShloMosaic.Adequacy
public import Idealize.ShloMosaic.Init

@[expose] public section

noncomputable section

namespace Cert.Proof

open Idealize.ShloMosaic Idealize.ShloMosaic.TcCoe Idealize.SL.Sem

/-- Over the extended reals the kernel and the reference end with equal results, the arguments unchanged. -/
theorem algebraic : Cert.algebraic_KernelIdeal_ReferenceIdeal
    (hKernelIdeal := Cert.KernelIdeal.Gen.facts) (hReferenceIdeal := Cert.ReferenceIdeal.Gen.facts) := by
  intro m g m' g' _ hm
  refine ⟨fun c => _, Cert.KernelIdeal.Array.run m g,
    (θ_run _ _ _).mono (fun r h c => ⟨(h c).1.trans ?_, (h c).2⟩) (Cert.ReferenceIdeal.Value.run m' g')⟩
  obtain ⟨e0, e1, e2, e3⟩ := hm c
  refine Eq.trans ?_ (Cert.Equation.eq_reference _ _ _ _ _ _ _).symm
  rw [e0, e1, e2, e3]

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
